-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x32 : Shape := ⟨3, ![16, 4096, 32]⟩
abbrev S2097152 : Shape := ⟨1, ![2097152]⟩
abbrev S16384 : Shape := ⟨1, ![16384]⟩
abbrev S16 : Shape := ⟨1, ![16]⟩
abbrev S_ : Shape := ⟨0, ![]⟩

abbrev nBuf : Table → Nat
  | .hbm => 4
  | .local .scVector .vmem => 1
  | _ => 0

abbrev bufTy : (tb : Table) → Fin (nBuf tb) → BufTy
  | .hbm, ⟨0, _⟩ => ⟨S16x4096x32, .f32⟩
  | .hbm, ⟨1, _⟩ => ⟨S2097152, .f32⟩
  | .hbm, ⟨2, _⟩ => ⟨S2097152, .f32⟩
  | .hbm, ⟨3, _⟩ => ⟨S16x4096x32, .f32⟩
  | .local .scVector .vmem, ⟨0, _⟩ => ⟨S16384, .f32⟩
  | _, _ => ⟨S16x4096x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v4 : BitVec 32 := Scalar.addi c0_i32_0 c4_i32
  let c1_i32 : BitVec 32 := 1#32
  ⟨c0_i32_0, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_0 : BitVec 32 := 0#32
  let c1_i32 : BitVec 32 := 1#32
  let arg5 : BitVec 32 := Scf.iv c0_i32_0 c1_i32 k0_t1
  let c16384_i32 : BitVec 32 := 16384#32
  let v6 : BitVec 32 := Scalar.muli arg5 c16384_i32
  let v7 : BitVec 32 := Scalar.addi v2 v6
  ![v7.toNat]
@[reducible] def k0_t2_loop : Scf.Loop 32 :=
  let c0_i32_3 : BitVec 32 := 0#32
  let c8_i32 : BitVec 32 := 8#32
  let v8 : BitVec 32 := Scalar.addi c0_i32_3 c8_i32
  let c1_i32_4 : BitVec 32 := 1#32
  ⟨c0_i32_3, v8, c1_i32_4⟩
@[reducible] def k0_t3_loop : Scf.Loop 32 :=
  let c0_i32_7 : BitVec 32 := 0#32
  let c64_i32 : BitVec 32 := 64#32
  let v11 : BitVec 32 := Scalar.addi c0_i32_7 c64_i32
  let c1_i32_8 : BitVec 32 := 1#32
  ⟨c0_i32_7, v11, c1_i32_8⟩
def k0_off2 (k0_t2 : Fin k0_t2_loop.trips) (k0_t3 : Fin k0_t3_loop.trips) : Fin 1 → Nat :=
  let c0_i32_3 : BitVec 32 := 0#32
  let c1_i32_4 : BitVec 32 := 1#32
  let arg7 : BitVec 32 := Scf.iv c0_i32_3 c1_i32_4 k0_t2
  let c2048_i32 : BitVec 32 := 2048#32
  let v10 : BitVec 32 := Scalar.muli arg7 c2048_i32
  let c0_i32_7 : BitVec 32 := 0#32
  let c1_i32_8 : BitVec 32 := 1#32
  let arg9 : BitVec 32 := Scf.iv c0_i32_7 c1_i32_8 k0_t3
  let c32_i32 : BitVec 32 := 32#32
  let v13 : BitVec 32 := Scalar.muli arg9 c32_i32
  let v14 : BitVec 32 := Scalar.addi v10 v13
  let v15 : Index := Scalar.indexCast v14
  ![v15.toNat]
def k0_off3 (k0_t2 : Fin k0_t2_loop.trips) (k0_t3 : Fin k0_t3_loop.trips) : Fin 1 → Nat :=
  let c0_i32_3 : BitVec 32 := 0#32
  let c1_i32_4 : BitVec 32 := 1#32
  let arg7 : BitVec 32 := Scf.iv c0_i32_3 c1_i32_4 k0_t2
  let c2048_i32 : BitVec 32 := 2048#32
  let v10 : BitVec 32 := Scalar.muli arg7 c2048_i32
  let c0_i32_7 : BitVec 32 := 0#32
  let c1_i32_8 : BitVec 32 := 1#32
  let arg9 : BitVec 32 := Scf.iv c0_i32_7 c1_i32_8 k0_t3
  let c32_i32 : BitVec 32 := 32#32
  let v13 : BitVec 32 := Scalar.muli arg9 c32_i32
  let v14 : BitVec 32 := Scalar.addi v10 v13
  let c16_i32 : BitVec 32 := 16#32
  let v19 : BitVec 32 := Scalar.addi v14 c16_i32
  let v20 : Index := Scalar.indexCast v19
  ![v20.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x32 : Shape := ⟨3, ![16, 4096, 32]⟩
abbrev S16x64x64x32 : Shape := ⟨4, ![16, 64, 64, 32]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16x4096x32, .f32⟩
  | .hbm, ⟨1, _⟩ => ⟨S16x64x64x32, .f32⟩
  | .hbm, ⟨2, _⟩ => ⟨S_, .f32⟩
  | .hbm, ⟨3, _⟩ => ⟨S_, .f32⟩
  | .hbm, ⟨4, _⟩ => ⟨S16x64x64x32, .f32⟩
  | .hbm, ⟨5, _⟩ => ⟨S16x4096x32, .f32⟩
  | _, _ => ⟨S16x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Scan.lean ====
/-
  The running sum the kernel computes, as plain functions of a flat array. The array is cut into runs of 2048 elements, 64 steps of
  32 lanes; within a run every lane is summed step by step, from zero, and each element is replaced by its lane's sum so far. The
  functions are over natural positions (`at0` reads an array there), so that a block of the array and the array itself are compared
  by arithmetic on positions alone.
-/
module

public import Idealize.ShloMosaic.PureOps
public import Idealize.ShloMosaic.Lib.ValueIdxCore

@[expose] public section

noncomputable section

namespace Cert.Proof.Scan

open Idealize.ShloMosaic Idealize.ShloMosaic.ValueIdx

variable {F : FTy → Type} [FloatOps F]

/-- The zero every lane's sum starts from. -/
def zero : F .f32 := Scalar.ofBits .f32 0x00000000#32

/-- The sum of `t` steps of a lane, the first at position `b` and each 32 positions after the one before. -/
def laneSum (x : ℕ → F .f32) (b : ℕ) : ℕ → F .f32
  | 0 => zero
  | t + 1 => FloatOps.addf (laneSum x b t) (x (b + 32 * t))

/-- The result at position `n`: the sum of its lane from its run's first step to its own. -/
def scanAt (x : ℕ → F .f32) (n : ℕ) : F .f32 := laneSum x (2048 * (n / 2048) + n % 32) (n % 2048 / 32 + 1)

/-- An array of `N` elements read at a natural position (zero past its end). -/
def at0 {N : ℕ} (f : (⟨1, ![N]⟩ : Shape).Idx → F .f32) (n : ℕ) : F .f32 := if h : n < N then f (ix1 ⟨n, h⟩) else zero

theorem at0_val {N : ℕ} (f : (⟨1, ![N]⟩ : Shape).Idx → F .f32) (i : (⟨1, ![N]⟩ : Shape).Idx) : at0 f (i 0).val = f i := by
  exact (dif_pos (show (i 0).val < N from (i 0).isLt)).trans (congrArg f (eq_ix1 i).symm)

/-- The whole result: every element its running sum. -/
def scan {N : ℕ} (f : (⟨1, ![N]⟩ : Shape).Idx → F .f32) : (⟨1, ![N]⟩ : Shape).Idx → F .f32 := fun i => scanAt (at0 f) (i 0).val

/-- An array whose first `n` elements are running sums and whose others are as they came. -/
def mix {N : ℕ} (f : (⟨1, ![N]⟩ : Shape).Idx → F .f32) (n : ℕ) : (⟨1, ![N]⟩ : Shape).Idx → F .f32 :=
  fun i => if (i 0).val < n then scanAt (at0 f) (i 0).val else f i

theorem mix_zero {N : ℕ} (f : (⟨1, ![N]⟩ : Shape).Idx → F .f32) : mix f 0 = f := funext fun _ => if_neg (Nat.not_lt_zero _)

theorem mix_all {N : ℕ} (f : (⟨1, ![N]⟩ : Shape).Idx → F .f32) {n : ℕ} (h : N ≤ n) : mix f n = scan f :=
  funext fun i => if_pos (lt_of_lt_of_le (i 0).isLt h)

theorem mix_lt {N : ℕ} (f : (⟨1, ![N]⟩ : Shape).Idx → F .f32) {n : ℕ} {i : (⟨1, ![N]⟩ : Shape).Idx} (h : (i 0).val < n) :
    mix f n i = scanAt (at0 f) (i 0).val := if_pos h

theorem mix_ge {N : ℕ} (f : (⟨1, ![N]⟩ : Shape).Idx → F .f32) {n : ℕ} {i : (⟨1, ![N]⟩ : Shape).Idx} (h : n ≤ (i 0).val) :
    mix f n i = f i := if_neg (not_lt.mpr h)

/-- A lane's sum reads only the positions of its steps. -/
theorem laneSum_congr (x y : ℕ → F .f32) (b c t : ℕ) (h : ∀ s < t, x (b + 32 * s) = y (c + 32 * s)) : laneSum x b t = laneSum y c t := by
  induction t with
  | zero => rfl
  | succ t ih =>
    unfold laneSum
    rw [ih fun s hs => h s (Nat.lt_succ_of_lt hs), h t (Nat.lt_succ_self t)]

/-- One step: the sum before step `t` of lane `l` of run `k`, plus that step's element, is the running sum at the element. -/
theorem scanAt_step (x : ℕ → F .f32) (k t l : ℕ) (ht : t < 64) (hl : l < 32) :
    scanAt x (2048 * k + 32 * t + l) = FloatOps.addf (laneSum x (2048 * k + l) t) (x (2048 * k + 32 * t + l)) := by
  have h1 : (2048 * k + 32 * t + l) / 2048 = k := by omega
  have h2 : (2048 * k + 32 * t + l) % 32 = l := by omega
  have h3 : (2048 * k + 32 * t + l) % 2048 / 32 = t := by omega
  unfold scanAt
  rw [h1, h2, h3]
  show FloatOps.addf (laneSum x (2048 * k + l) t) (x (2048 * k + l + 32 * t)) = _
  rw [show 2048 * k + l + 32 * t = 2048 * k + 32 * t + l by omega]

/-- Running sums do not see where a block that starts on a run lies: those of the block are those of the array there. -/
theorem scanAt_shift (x y : ℕ → F .f32) (o N n : ℕ) (ho : 2048 ∣ o) (hN : 2048 ∣ N) (hn : n < N) (h : ∀ p < N, y p = x (o + p)) :
    scanAt y n = scanAt x (o + n) := by
  obtain ⟨q, rfl⟩ := ho
  obtain ⟨r, rfl⟩ := hN
  unfold scanAt
  rw [show (2048 * q + n) % 32 = n % 32 by omega, show (2048 * q + n) % 2048 = n % 2048 by omega,
    show (2048 * q + n) / 2048 = q + n / 2048 by omega]
  refine laneSum_congr _ _ _ _ _ fun s hs => ?_
  rw [h _ (by omega)]
  congr 1
  omega

end Cert.Proof.Scan

end
-- ==== Proof.KernelIdealTile.lean ====
/-
  One tile's task. Tile `(c, s)` — SparseCore `c`, vector subcore `s` — has the 65536 elements from `65536 * (2 s + c)` on, of the input
  and of the result. It goes through them in four blocks of 16384: a block is fetched into the tile's scratch, turned there into its
  running sums, run by run and step by step, and written out. The invariants carry the values: between steps the scratch is
  `Scan.mix` of the fetched block, the loop's two vectors are the sums of the run's 32 lanes so far, and between blocks the result's
  part is the running sums of the input up to the blocks done. Stated at any float instance and any tile.
-/
module

public import proofs.«01_k».proof.Defs
public import proofs.«01_k».proof.Proof.Scan
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Cert.Proof.Scan

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO MayWaits)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

variable [FloatOps F]

/-! ## The arrays, the scratch, and a tile's parts -/

/-- The flat input and result, as locations of device `d`. -/
abbrev xLoc (d : Dev nD) : Loc nD τ sig := (SparseCore.T d).loc main_v0
abbrev oLoc (d : Dev nD) : Loc nD τ sig := (SparseCore.T d).loc main_v1

/-- The same, and the tile's scratch, as the kernel names them. -/
abbrev xV : Memref sig .scVector .hbm S2097152 .f32 := Memref.whole main_v0_scv
abbrev oV : Memref sig .scVector .hbm S2097152 .f32 := Memref.whole main_v1_scv
abbrev sV : Memref sig .scVector .vmem S16384 .f32 := Memref.whole cc0_scratch0

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)
abbrev sLoc (d : Dev nD) (L : grid0.Coords) : Loc nD τ sig := (thr d L).loc cc0_scratch0

/-- The scratch's store of 16 elements at position `n` that are the running sums there takes `n` running sums to `n + 16`. -/
theorem store_mix (B : S16384.Idx → F .f32) (n : ℕ) (off : Fin 1 → ℕ) (inb : ∀ a, off a + S16.size a ≤ S16384.size a) (hoff : off 0 = n)
    (w : S16.Idx → F .f32) (hw : ∀ l : S16.Idx, w l = scanAt (at0 B) (n + (l 0).val)) :
    ((sV.access (Rect.unit (s := S16384) off S16.size inb)).write (Elt F) (mix B n) w Finset.univ : S16384.Idx → F .f32) = mix B (n + 16) := by
  funext i
  by_cases h : n ≤ (i 0).val ∧ (i 0).val < n + 16
  · have hi : i = (sV.access (Rect.unit (s := S16384) off S16.size inb)).emb (ix1 (n := 16) ⟨(i 0).val - n, by omega⟩) := by
      refine funext fun (a : Fin 1) => Fin.ext ?_
      obtain rfl : a = 0 := Subsingleton.elim _ _
      show (i 0).val = off 0 + 1 * ((i 0).val - n)
      omega
    rw [mix_lt B h.2]
    conv_lhs => rw [hi, View.write_emb_of_mem _ _ (Finset.mem_univ _)]
    refine (cast_eq _ _).trans ((hw _).trans ?_)
    show scanAt (at0 B) (n + ((i 0).val - n)) = _
    rw [Nat.add_sub_cancel' h.1]
  · rw [View.write_of_not_mem]
    · by_cases h' : (i 0).val < n
      · rw [mix_lt B h', mix_lt B (by omega)]
      · rw [mix_ge B (by omega), mix_ge B (by omega)]
    · intro hm
      rw [View.setOn_univ, View.set_slice] at hm
      obtain ⟨y, hy, rfl⟩ := Finset.mem_map.mp hm
      have := Rect.mem_set_unit.mp hy 0
      rw [hoff] at this
      exact h this

/-- The scratch's load of 16 elements at position `n`, none of them summed yet, reads the fetched block there. -/
theorem load_mix (B : S16384.Idx → F .f32) (p n : ℕ) (off : Fin 1 → ℕ) (inb : ∀ a, off a + S16.size a ≤ S16384.size a) (hoff : off 0 = n)
    (hp : p ≤ n) (l : S16.Idx) :
    sV.view.readAt (Elt F) (Rect.unit (s := S16384) off S16.size inb).toLoadRect (mix B p) l = at0 B (n + (l 0).val) := by
  have hv : ((Rect.unit (s := S16384) off S16.size inb).toLoadRect.idx l 0).val = n + (l 0).val := by
    show off 0 + 1 * (l 0).val = _
    omega
  refine (View.readAt_apply _ _ _).trans ((cast_eq _ _).trans ?_)
  show mix B p ((Rect.unit (s := S16384) off S16.size inb).toLoadRect.idx l) = _
  rw [mix_ge B (by omega), ← hv]
  exact (at0_val B _).symm

/-- The scratch as a store addresses it is the scratch. -/
theorem access_pts (r : Rect S16384) (f : Buf (Elt F) (sLoc d L)) :
    ((sV.access r).loc (thr d L) ↦{fullShare} f : sProp 𝕄) = sLoc d L ↦{fullShare} f := rfl

/-! ## The step loop -/

/-- The sums of 16 lanes of run `k`, from lane `o` on, before step `t`. -/
def lanes (B : S16384.Idx → F .f32) (k o t : ℕ) : FVec F S16 .f32 := fun l => laneSum (at0 B) (2048 * k + (o + (l 0).val)) t

/-- The sums after a step, as the running sums at the step's elements. -/
theorem lanes_scanAt (B : S16384.Idx → F .f32) (k o t : ℕ) (ht : t < 64) (ho : o + 16 ≤ 32) (l : S16.Idx) :
    lanes B k o (t + 1) l = scanAt (at0 B) (2048 * k + 32 * t + o + (l 0).val) := by
  have hl : (l 0).val < 16 := (l 0).isLt
  rw [show 2048 * k + 32 * t + o + (l 0).val = 2048 * k + 32 * t + (o + (l 0).val) by omega, scanAt_step _ _ _ _ ht (by omega)]
  show FloatOps.addf _ _ = _
  rw [show 2048 * k + (o + (l 0).val) + 32 * t = 2048 * k + 32 * t + (o + (l 0).val) by omega]

/-- The addition of a step's 16 loaded elements to the sums is the sums after the step. -/
theorem lanes_add (B : S16384.Idx → F .f32) (k o t p : ℕ) (off : Fin 1 → ℕ) (inb : ∀ a, off a + S16.size a ≤ S16384.size a)
    (hoff : off 0 = 2048 * k + 32 * t + o) (hp : p ≤ 2048 * k + 32 * t + o) :
    addf (lanes B k o t) (shapeCast S16 (sV.view.readAt (Elt F) (Rect.unit (s := S16384) off S16.size inb).toLoadRect (mix B p)) shapeCasts_S16_S16)
      = lanes B k o (t + 1) := by
  refine (congrArg (addf (lanes B k o t)) (shapeCast_self (s := S16) _ _)).trans (funext fun l => ?_)
  show FloatOps.addf _ _ = FloatOps.addf _ _
  rw [load_mix B p _ off inb hoff hp l]
  rw [show 2048 * k + 32 * t + o + (l 0).val = 2048 * k + (o + (l 0).val) + 32 * t by omega]
  rfl

/-- Before step `t` of run `k` the loop's two vectors are the sums so far of lanes 0 to 15 and 16 to 31, and the scratch's running sums
    reach the step. -/
def stepInv (B : S16384.Idx → F .f32) (k : ℕ) (t : ℕ) (acc : FVec F S16 .f32 × FVec F S16 .f32) : sProp 𝕄 :=
  iprop(⌜acc = (lanes B k 0 t, lanes B k 16 t)⌝ ∗ (sLoc d L ↦{fullShare} mix B (2048 * k + 32 * t)))

theorem step (B : S16384.Idx → F .f32) (k : Fin k0_t2_loop.trips) (t : Fin k0_t3_loop.trips) (acc : FVec F S16 .f32 × FVec F S16 .f32) :
    stepInv d L B k.val t.val acc
      ⊢ wp frame (wpE (defs₀ (F := F)) 𝒱₀ (thr d L) none) Set.univ
          (k0_t3_body L xV (Memref.isWhole_whole _) oV (Memref.isWhole_whole _) sV (Memref.isWhole_whole _) cc0_scoped0 cc0_scoped1 k t acc)
          (stepInv d L B k.val (t.val + 1)) := by
  have ht : t.val < 64 := t.isLt
  have h2 : k0_off2 k t 0 = 2048 * k.val + 32 * t.val + 0 := by rw [k0_off2_eq]; rfl
  have h3 : k0_off3 k t 0 = 2048 * k.val + 32 * t.val + 16 := by rw [k0_off3_eq]; rfl
  obtain ⟨a0, a1⟩ := acc
  unfold stepInv k0_t3_body
  iintro ⟨%hacc, Hs⟩
  obtain ⟨rfl, rfl⟩ := Prod.mk.inj hacc
  have e2 := lanes_add B k.val 0 t.val (2048 * k.val + 32 * t.val) (k0_off2 k t) (k0_off2_inb k t) h2 le_rfl
  have e3 := lanes_add B k.val 16 t.val (2048 * k.val + 32 * t.val) (k0_off3 k t) (k0_off3_inb k t) h3 (Nat.le_add_right _ _)
  simp only [Prog.lift, Prog.bind_op, Prog.bind_ret, Prog.pure_eq_ret]
  iapply (wp_load 𝒱₀ (thr d L) none Set.univ (m := sV) (S := Finset.univ) (Finset.subset_univ _)) $$ Hs; iintro Hs
  iapply (wp_load 𝒱₀ (thr d L) none Set.univ (m := sV) (S := Finset.univ) (Finset.subset_univ _)) $$ Hs; iintro Hs
  unfold k0_pay4 k0_pay5 k0_pay2 k0_pay3
  simp only []
  rw [e2, e3, shapeCast_self, shapeCast_self]
  iapply (wp_load 𝒱₀ (thr d L) none Set.univ (m := sV) (S := Finset.univ) (Finset.subset_univ _)) $$ Hs; iintro Hs
  iapply (wp_store 𝒱₀ (thr d L) none Set.univ (m := sV) (r := Rect.unit (s := S16384) (k0_off2 k t) S16.size (k0_off2_inb k t)) (Mk := Finset.univ) (S := Finset.univ) (Finset.subset_univ _)) $$ Hs; iintro Hs
  ihave Hs' := (Entails.of_eq (access_pts (F := F) d L _ _)) $$ Hs
  rw [store_mix B _ _ _ (h2.trans (Nat.add_zero _)) _ fun l => lanes_scanAt B k.val 0 t.val ht (by decide) l]
  iapply (wp_load 𝒱₀ (thr d L) none Set.univ (m := sV) (S := Finset.univ) (Finset.subset_univ _)) $$ Hs'; iintro Hs
  iapply (wp_store 𝒱₀ (thr d L) none Set.univ (m := sV) (r := Rect.unit (s := S16384) (k0_off3 k t) S16.size (k0_off3_inb k t)) (Mk := Finset.univ) (S := Finset.univ) (Finset.subset_univ _)) $$ Hs; iintro Hs
  ihave Hs' := (Entails.of_eq (access_pts (F := F) d L _ _)) $$ Hs
  rw [store_mix B _ _ _ h3 _ fun l => lanes_scanAt B k.val 16 t.val ht (by decide) l, wp_ret]
  imodintro
  isplitr; · ipureintro; rfl
  rw [show 2048 * k.val + 32 * (t.val + 1) = 2048 * k.val + 32 * t.val + 16 + 16 by omega]
  iexact Hs'

/-! ## The run loop -/

/-- A run: from `k` runs summed to `k + 1`, by the step loop from zero sums. -/
theorem run (B : S16384.Idx → F .f32) (k : Fin k0_t2_loop.trips) (acc : BitVec 32) :
    (sLoc d L ↦{fullShare} mix B (2048 * k.val) : sProp 𝕄)
      ⊢ wp frame (wpE (defs₀ (F := F)) 𝒱₀ (thr d L) none) Set.univ
          (k0_t2_body L xV (Memref.isWhole_whole _) oV (Memref.isWhole_whole _) sV (Memref.isWhole_whole _) cc0_scoped0 cc0_scoped1 k acc)
          (fun _ => sLoc d L ↦{fullShare} mix B (2048 * (k.val + 1))) := by
  unfold k0_t2_body
  iintro Hs
  iapply (Scf.wp_for_bind frame (wpE (defs₀ (F := F)) 𝒱₀ (thr d L) none) Set.univ _ _ _ k0_t3_ok _ _ (stepInv d L B k.val) (step d L B k)) $$ [Hs]
  · unfold stepInv
    isplitr; · ipureintro; rfl
    iexact Hs
  iintro %acc HI
  unfold stepInv
  icases HI with ⟨-, Hs⟩
  rw [Prog.pure_eq_ret, wp_ret]
  imodintro
  rw [show 2048 * (k.val + 1) = 2048 * k.val + 32 * k0_t3_loop.trips from rfl]
  iexact Hs

/-! ## A block -/

/-- Block `b` of the tile: where it starts, its elements, and what is fetched of it. -/
abbrev start (L : grid0.Coords) (b : ℕ) : ℕ := 65536 * (2 * (L 1).val + (L 0).val) + 16384 * b
abbrev blk (L : grid0.Coords) (b : Fin k0_t1_loop.trips) : Rect S2097152 := Rect.unit (s := S2097152) (k0_off1 L b) S16384.size (k0_off1_inb L b)
abbrev xB (L : grid0.Coords) (b : Fin k0_t1_loop.trips) : Memref sig .scVector .hbm S16384 .f32 := xV.slice (blk L b) (fun _ => rfl)
abbrev oB (L : grid0.Coords) (b : Fin k0_t1_loop.trips) : Memref sig .scVector .hbm S16384 .f32 := oV.slice (blk L b) (fun _ => rfl)

omit [FloatOps F] in
theorem off_blk (b : Fin k0_t1_loop.trips) : k0_off1 L b 0 = start L b.val := by
  rw [k0_off1_eq]
  show 131072 * (L 1).val + 65536 * (L 0).val + 16384 * b.val = _
  unfold start; omega

def fetched (b : Fin k0_t1_loop.trips) (x : S2097152.Idx → F .f32) : S16384.Idx → F .f32 := (xB L b).view.read (Elt F) x

theorem fetched_at (b : Fin k0_t1_loop.trips) (x : S2097152.Idx → F .f32) (p : ℕ) (hp : p < 16384) :
    at0 (fetched L b x) p = at0 x (start L b.val + p) := by
  have h : ((xB L b).view.emb (ix1 (n := 16384) ⟨p, hp⟩) 0).val = start L b.val + p := by
    rw [← off_blk]
    show k0_off1 L b 0 + 1 * p = _
    omega
  refine (at0_val (fetched L b x) (ix1 ⟨p, hp⟩)).trans (((View.read_apply _ _).trans (cast_eq _ _)).trans ?_)
  rw [← h]
  exact (at0_val x _).symm

/-- The block's running sums are the input's, at the block's place: it starts and ends between runs. -/
theorem fetched_scan (b : Fin k0_t1_loop.trips) (x : S2097152.Idx → F .f32) (p : ℕ) (hp : p < 16384) :
    scanAt (at0 (fetched L b x)) p = scanAt (at0 x) (start L b.val + p) :=
  scanAt_shift _ _ _ _ _ ⟨32 * (2 * (L 1).val + (L 0).val) + 8 * b.val, by unfold start; omega⟩ (by decide : 2048 ∣ 16384) hp (fetched_at L b x)

/-- The elements of the tile. -/
def tileSet (L : grid0.Coords) : Finset S2097152.Idx := Finset.univ.filter fun i => start L 0 ≤ (i 0).val ∧ (i 0).val < start L 4

/-- The result with its elements before position `n` the running sums, the others as launched. -/
def filled (x f : S2097152.Idx → F .f32) (n : ℕ) : S2097152.Idx → F .f32 := fun i => if (i 0).val < n then scan x i else f i

theorem filled_lt {x f : S2097152.Idx → F .f32} {n : ℕ} {i : S2097152.Idx} (h : (i 0).val < n) : filled x f n i = scan x i := if_pos h
theorem filled_ge {x f : S2097152.Idx → F .f32} {n : ℕ} {i : S2097152.Idx} (h : n ≤ (i 0).val) : filled x f n i = f i := if_neg (not_lt.mpr h)

omit [FloatOps F] in
theorem mem_blk (b : Fin k0_t1_loop.trips) (i : S2097152.Idx) :
    i ∈ (blk L b).set ↔ start L b.val ≤ (i 0).val ∧ (i 0).val < start L b.val + 16384 := by
  rw [Rect.mem_set_unit, ← off_blk]
  constructor
  · exact fun h => h 0
  · intro h (a : Fin 1)
    obtain rfl : a = 0 := Subsingleton.elim _ _
    exact h

omit [FloatOps F] in
theorem blk_sub (b : Fin k0_t1_loop.trips) : (blk L b).set ⊆ tileSet L := by
  intro i hi
  have hb : b.val < 4 := b.isLt
  obtain ⟨h1, h2⟩ := (mem_blk L b i).mp hi
  refine Finset.mem_filter.mpr ⟨Finset.mem_univ _, ?_⟩
  unfold start at *; omega

omit [FloatOps F] in
theorem set_xB (b : Fin k0_t1_loop.trips) : (xB L b).view.set = (blk L b).set :=
  (View.set_slice _ _).trans Finset.map_refl
omit [FloatOps F] in
theorem set_oB (b : Fin k0_t1_loop.trips) : (oB L b).view.set = (blk L b).set :=
  (View.set_slice _ _).trans Finset.map_refl

/-- The block's running sums written out: on the tile, the result is filled a block further. -/
theorem write_filled (b : Fin k0_t1_loop.trips) (x f : S2097152.Idx → F .f32) (i : S2097152.Idx) (hi : i ∈ tileSet L) :
    (oB L b).view.write (Elt F) (filled x f (start L b.val)) (scan (fetched L b x)) Finset.univ i = filled x f (start L (b.val + 1)) i := by
  have hs : start L (b.val + 1) = start L b.val + 16384 := by unfold start; omega
  by_cases h : i ∈ (blk L b).set
  · obtain ⟨h1, h2⟩ := (mem_blk L b i).mp h
    have hp : (i 0).val - start L b.val < 16384 := by omega
    have he : i = (oB L b).view.emb (ix1 (n := 16384) ⟨(i 0).val - start L b.val, hp⟩) := by
      refine funext fun (a : Fin 1) => Fin.ext ?_
      obtain rfl : a = 0 := Subsingleton.elim _ _
      show (i 0).val = k0_off1 L b 0 + 1 * ((i 0).val - start L b.val)
      rw [off_blk]; omega
    rw [filled_lt (hs ▸ h2)]
    conv_lhs => rw [he, View.write_emb_of_mem _ _ (Finset.mem_univ _)]
    refine (cast_eq _ _).trans ((fetched_scan L b x _ hp).trans ?_)
    rw [Nat.add_sub_cancel' h1]
    rfl
  · have hn : i ∉ (oB L b).view.setOn Finset.univ := by rw [View.setOn_univ, set_oB]; exact h
    rw [View.write_of_not_mem _ _ _ hn]
    have h0 := (Finset.mem_filter.mp hi).2
    have h' := mt (mem_blk L b i).mpr h
    by_cases h1 : (i 0).val < start L b.val
    · rw [filled_lt h1, filled_lt (by omega)]
    · rw [filled_ge (not_lt.mp h1), filled_ge (by omega)]

/-- What the fetch leaves in the scratch: the block, none of it summed. -/
theorem landed (b : Fin k0_t1_loop.trips) (x : S2097152.Idx → F .f32) (g : Buf (Elt F) (sLoc d L)) :
    (sV.view.loc (thr d L) ↦{fullShare} sV.view.write (Elt F) g (ReadAs.same.apply ((xB L b).view.read (Elt F) x)) Finset.univ : sProp 𝕄)
      = sLoc d L ↦{fullShare} mix (fetched L b x) (2048 * 0) := by
  rw [Nat.mul_zero, mix_zero]
  exact congrArg (fun h => (sLoc d L ↦{fullShare} h : sProp 𝕄)) (View.write_whole_univ _ _ _)

/-- The tile's two transfer semaphores. -/
abbrev inCell (d : Dev nD) (L : grid0.Coords) : GSem nD τ sig := (thr d L, .dma cc0_scoped0.sem)
abbrev outCell (d : Dev nD) (L : grid0.Coords) : GSem nD τ sig := (thr d L, .dma cc0_scoped1.sem)

/-- Before block `b`: the input whole, the result filled up to the block, the scratch at whatever is in it, both semaphores at zero,
    and what the tile owes. -/
def blockInv (x f : S2097152.Idx → F .f32) (O : CellTallies nD τ sig (HIx 1)) (W : Waits sig (HIx 1)) (b : ℕ) (_ : BitVec 32) : sProp 𝕄 :=
  iprop(MayWaits (thr d L) (none : HIx 1) O ∗ (xLoc d ↦[tileSet L]{fullShare} x) ∗ (oLoc d ↦[tileSet L]{fullShare} filled x f (start L b))
    ∗ (∃ g, sLoc d L ↦{fullShare} g) ∗ semVal (inCell d L) 0 ∗ semVal (outCell d L) 0
    ∗ ∃ W', ⌜∀ p ∈ W', p ∈ W ∨ p.2 = none⌝ ∗ owes (thr d L) O W')

theorem block (x f : S2097152.Idx → F .f32) (O : CellTallies nD τ sig (HIx 1)) (W : Waits sig (HIx 1)) (b : Fin k0_t1_loop.trips) (acc : BitVec 32) :
    blockInv d L x f O W b.val acc
      ⊢ wp frame (wpE (defs₀ (F := F)) 𝒱₀ (thr d L) none) Set.univ
          (k0_t1_body L xV (Memref.isWhole_whole _) oV (Memref.isWhole_whole _) sV (Memref.isWhole_whole _) cc0_scoped0 cc0_scoped1 b acc)
          (blockInv d L x f O W (b.val + 1)) := by
  unfold blockInv k0_t1_body
  simp only [Prog.lift, Prog.bind_op, Prog.bind_ret, Prog.pure_eq_ret]
  iintro ⟨#Hmw, Hx, Ho, ⟨%g, Hs⟩, Hin, Hout, %W', %hW', HO⟩
  -- the fetch
  ihave Hx' := (pointsTo_split_subset (blk_sub L b)).1 $$ Hx
  icases Hx' with ⟨Hb, Hx⟩
  iapply (wp_dmaLocal EC 𝒱₀ (thr d L) none (src := xB L b) (dst := sV) (Sd := Finset.univ) (fs := x) (fd := g) (q := fullShare) none _ rfl
      (View.amount_pos _ _ (show 0 < S16384.numel by decide)) (Finset.subset_univ _)) $$ [Hb Hs Hin]
  · rw [set_xB]
    isplitl [Hb]; · iexact Hb
    isplitl [Hs]; · iexact Hs
    iexact Hin
  iintro HF
  iapply (wp_waitLocalO EC 𝒱₀ (thr d L) none none rfl) $$ [HF HO]
  · isplitl [HF]; · iexact HF
    isplitl [HO]; · iexact HO
    iapply (MayWaits.elim _); iexact Hmw
  iintro ⟨⟨Hs, Hb⟩, Hin, HO⟩
  ihave Hs' := (Entails.of_eq (landed (F := F) d L b x g)) $$ Hs
  -- its runs
  iapply (Scf.wp_for_bind frame (wpE (defs₀ (F := F)) 𝒱₀ (thr d L) none) Set.univ _ _ _ k0_t2_ok _ _
      (fun k _ => iprop(sLoc d L ↦{fullShare} mix (fetched L b x) (2048 * k))) (run d L (fetched L b x))) $$ [Hs']
  · iexact Hs'
  iintro %_ Hs
  rw [mix_all (fetched L b x) (show 16384 ≤ 2048 * k0_t2_loop.trips from by decide)]
  -- the write-out
  iapply (wp_dmaLocal EC 𝒱₀ (thr d L) none (src := sV) (dst := oB L b) (Sd := tileSet L) (fs := scan (fetched L b x))
      (fd := filled x f (start L b.val)) (q := fullShare) none _ rfl
      (View.amount_pos _ _ (show 0 < S16384.numel by decide)) ((set_oB L b).subset.trans (blk_sub L b))) $$ [Ho Hs Hout]
  · isplitl [Hs]; · simp only [Memref.view_whole, View.set_whole]; iexact Hs
    isplitl [Ho]; · iexact Ho
    iexact Hout
  iintro HF
  iapply (wp_waitLocalO EC 𝒱₀ (thr d L) none none rfl) $$ [HF HO]
  · isplitl [HF]; · iexact HF
    isplitl [HO]; · iexact HO
    iapply (MayWaits.elim _); iexact Hmw
  iintro ⟨⟨Ho, Hs⟩, Hout, HO⟩
  rw [wp_ret]; imodintro
  isplitr; · iexact Hmw
  isplitl [Hb Hx]
  · iapply (pointsTo_split_subset (blk_sub L b)).2
    rw [← set_xB]
    isplitl [Hb]; · iexact Hb
    rw [set_xB]; iexact Hx
  isplitl [Ho]
  · iapply (Entails.of_eq (pointsTo_congr (write_filled L b x f))); iexact Ho
  isplitl [Hs]
  · iexists scan (fetched L b x)
    simp only [Memref.view_whole, View.set_whole]; iexact Hs
  isplitl [Hin]; · iexact Hin
  isplitl [Hout]; · iexact Hout
  iexists _; isplitr [HO]
  rotate_left; · iexact HO
  ipureintro; intro p hp
  rcases Finset.mem_insert.mp hp with rfl | hp
  · exact .inr rfl
  rcases Finset.mem_insert.mp hp with rfl | hp
  · exact .inr rfl
  · exact hW' p hp

/-! ## The task -/

omit [FloatOps F] in
theorem ownSems0_V :
    (ownSems0 (thr d L) : sProp 𝕄)
      = iprop(semVal (inCell d L) 0 ∗ semVal (outCell d L) 0 ∗ bigSep (((ownCells (thr d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

omit [FloatOps F] in
theorem ownBufs_V :
    (ownBufs (thr d L) : sProp 𝕄)
      = iprop((∃ g, sLoc d L ↦{fullShare} g)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- Before any block nothing is filled; after the four the tile's part of the result is the running sums. -/
theorem filled_first (x f : S2097152.Idx → F .f32) (i : S2097152.Idx) (hi : i ∈ tileSet L) : f i = filled x f (start L 0) i :=
  (filled_ge (Finset.mem_filter.mp hi).2.1).symm
theorem filled_last (x f : S2097152.Idx → F .f32) (i : S2097152.Idx) (hi : i ∈ tileSet L) : filled x f (start L 4) i = scan x i :=
  filled_lt (Finset.mem_filter.mp hi).2.2

/-- The tile's parts of the input, at `x`, and of the result, at `f`. -/
abbrev parts (x f : S2097152.Idx → F .f32) : sProp 𝕄 := iprop((xLoc d ↦[tileSet L]{fullShare} x) ∗ (oLoc d ↦[tileSet L]{fullShare} f))

/-- The task: from its part of the input at `x` and of the result at anything, its part of the result at the running sums of `x`. -/
theorem task (x f : S2097152.Idx → F .f32) (O : CellTallies nD τ sig (HIx 1)) (W : Waits sig (HIx 1)) (hO : ∀ g, O g none = 0) :
    iprop(levAts (K (F := F)).L (K (F := F)).lev ∗ emp ∗ parts d L x f
        ∗ scopedBufs (thr d L) ∗ scopedSems0 (thr d L) ∗ owes (thr d L) O W)
      ⊢ wp frame (wpE (defs₀ (F := F)) 𝒱₀ (thr d L) none) Set.univ
          (cc0__body L xV (Memref.isWhole_whole _) oV (Memref.isWhole_whole _) sV (Memref.isWhole_whole _) cc0_scoped0 cc0_scoped1)
          fun _ => iprop(parts d L x (scan x)
            ∗ scopedBufs (thr d L) ∗ scopedSems0 (thr d L) ∗ ∃ W', ⌜∀ p ∈ W', p ∈ W ∨ p.2 = none⌝ ∗ owes (thr d L) O W') := by
  simp only [cc0__body_eq_skeleton]; unfold cc0__body_skel
  rw [(K (F := F)).scopedBufs_V facts d (cV L) (jV L), SparseCore.Cfg.scopedSems0_V (Val := Elt F) d (cV L) (jV L), ownSems0_V, ownBufs_V]
  iintro ⟨#Hlv, -, ⟨Hx, Ho⟩, ⟨Hs, Hbufs⟩, ⟨Hin, Hout, Hsems⟩, HO⟩
  ihave Hmw := ((K (F := F)).mayWaits_none (thr := thr d L) hO) $$ Hlv
  iapply (Scf.wp_for_bind frame (wpE (defs₀ (F := F)) 𝒱₀ (thr d L) none) Set.univ _ _ _ k0_t1_ok _ _ (blockInv d L x f O W) (block d L x f O W))
    $$ [Hx Ho Hs Hin Hout HO Hmw]
  · unfold blockInv
    isplitl [Hmw]; · iexact Hmw
    isplitl [Hx]; · iexact Hx
    isplitl [Ho]; · iapply (Entails.of_eq (pointsTo_congr (filled_first L x f))); iexact Ho
    isplitl [Hs]; · iexact Hs
    isplitl [Hin]; · iexact Hin
    isplitl [Hout]; · iexact Hout
    iexists W; isplitr
    · ipureintro; exact fun p hp => .inl hp
    · iexact HO
  iintro %_ HI
  unfold blockInv
  icases HI with ⟨-, Hx, Ho, Hs, Hin, Hout, HO⟩
  rw [Prog.pure_eq_ret, wp_ret]; imodintro
  isplitl [Hx Ho]
  · isplitl [Hx]; · iexact Hx
    iapply (Entails.of_eq (pointsTo_congr (filled_last L x f))); iexact Ho
  isplitl [Hs Hbufs]; · isplitl [Hs] <;> iassumption
  isplitl [Hin Hout Hsems]
  · isplitl [Hin]; · iexact Hin
    isplitl [Hout] <;> iassumption
  iexact HO

end Tile

end Cert.KernelIdeal.Tile

end
-- ==== Proof.KernelIdealRun.lean ====
/-
  The program's run. The TensorCore lays the input out flat, starts the kernel on both SparseCores' vector subcores, and takes the
  result back into the input's shape. Each SparseCore is handed its sixteen tiles' parts of the flat input and of the flat result, a tile
  its own (`Tile.task`); together the 32 tiles' parts are the whole arrays, so after the call the flat result is the running sums of the
  flat input. The run leaves the input as it was, the result at these sums (`out`), and every semaphore at zero.
-/
module

public import proofs.«01_k».proof.Proof.KernelIdealTile

@[expose] public section

noncomputable section

namespace Cert.KernelIdeal.Tile

open Cert.KernelIdeal Cert.KernelIdeal.Gen
open Cert.Proof.Scan

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The arrays' contents -/

abbrev argLoc (d : Dev nD) : Loc nD τ sig := (SparseCore.T d).loc main_arg0
abbrev resLoc (d : Dev nD) : Loc nD τ sig := (SparseCore.T d).loc main_v2

/-- The input laid out flat. -/
def flat (d : Dev nD) : S2097152.Idx → F .f32 := shapeCast S2097152 (m (argLoc d) : S16x4096x32.Idx → F .f32) shapeCasts_S16x4096x32_S2097152
/-- The result: the running sums of the flat input, in the input's shape. -/
def out (d : Dev nD) : S16x4096x32.Idx → F .f32 := shapeCast S16x4096x32 (scan (flat m d) : S2097152.Idx → F .f32) shapeCasts_S2097152_S16x4096x32

/-! ## The tiles' parts -/

def coordsV (c : Fin (grid0.bound 0)) (s : Fin (grid0.bound 1)) : grid0.Coords :=
  fun | 0 => c | 1 => s | ⟨_ + 2, h⟩ => absurd h (Nat.not_lt.2 (Nat.le_add_left _ _))

abbrev tile (c : Fin 2) (s : Fin 16) : grid0.Coords := coordsV c s

omit [FloatOps F] in
theorem mem_tile (c : Fin 2) (s : Fin 16) (i : S2097152.Idx) :
    i ∈ tileSet (tile c s) ↔ 65536 * (2 * s.val + c.val) ≤ (i 0).val ∧ (i 0).val < 65536 * (2 * s.val + c.val) + 65536 := by
  unfold tileSet
  rw [Finset.mem_filter]
  exact ⟨fun h => h.2, fun h => ⟨Finset.mem_univ _, h⟩⟩

omit [FloatOps F] in
theorem tiles_disjoint : ∀ p ∈ (Finset.univ : Finset (Fin 2 × Fin 16)), ∀ q ∈ (Finset.univ : Finset (Fin 2 × Fin 16)), p ≠ q →
    Disjoint (tileSet (tile p.1 p.2)) (tileSet (tile q.1 q.2)) := by
  intro p _ q _ h
  refine Finset.disjoint_left.mpr fun i h1 h2 => h ?_
  have h1 := (mem_tile _ _ _).mp h1
  have h2 := (mem_tile _ _ _).mp h2
  exact Prod.ext (Fin.ext (by omega)) (Fin.ext (by omega))

omit [FloatOps F] in
theorem tiles_cover : ((Finset.univ : Finset (Fin 2 × Fin 16)).biUnion fun p => tileSet (tile p.1 p.2)) = Finset.univ := by
  refine Finset.eq_univ_of_forall fun i => Finset.mem_biUnion.mpr ?_
  have hi : (i 0).val < 2097152 := (i 0).isLt
  refine ⟨(⟨(i 0).val / 65536 % 2, by omega⟩, ⟨(i 0).val / 65536 / 2, by omega⟩), Finset.mem_univ _, (mem_tile _ _ _).mpr ?_⟩
  dsimp only
  omega

omit [FloatOps F] in
/-- The flat input, and the flat result, whole are their tiles' parts. -/
theorem xPts_tiles (d : Dev nD) (f : S2097152.Idx → F .f32) :
    (xLoc d ↦{fullShare} f : sProp 𝕄) = bigSep Finset.univ fun p : Fin 2 × Fin 16 => xLoc d ↦[tileSet (tile p.1 p.2)]{fullShare} f := by
  rw [← pointsTo_biUnion Finset.univ (ℓ := xLoc d) (fun p : Fin 2 × Fin 16 => tileSet (tile p.1 p.2)) tiles_disjoint, tiles_cover]; try rfl
omit [FloatOps F] in
theorem oPts_tiles (d : Dev nD) (f : S2097152.Idx → F .f32) :
    (oLoc d ↦{fullShare} f : sProp 𝕄) = bigSep Finset.univ fun p : Fin 2 × Fin 16 => oLoc d ↦[tileSet (tile p.1 p.2)]{fullShare} f := by
  rw [← pointsTo_biUnion Finset.univ (ℓ := oLoc d) (fun p : Fin 2 × Fin 16 => tileSet (tile p.1 p.2)) tiles_disjoint, tiles_cover]; try rfl

/-- One SparseCore's tiles' parts. -/
def coreParts (d : Dev nD) (c : Fin 2) (x f : S2097152.Idx → F .f32) : sProp 𝕄 := bigSep Finset.univ fun s : Fin 16 => parts d (tile c s) x f

omit [FloatOps F] in
theorem cores (d : Dev nD) (x f : S2097152.Idx → F .f32) :
    (bigSep Finset.univ fun c : Fin 2 => coreParts d c x f) = (iprop((xLoc d ↦{fullShare} x) ∗ (oLoc d ↦{fullShare} f)) : sProp 𝕄) := by
  rw [xPts_tiles, oPts_tiles, ← bigSep_sep']
  unfold coreParts
  exact (SparseCore.bigSep_product Finset.univ Finset.univ (fun p : Fin 2 × Fin 16 => parts d (tile p.1 p.2) x f)).symm

omit [FloatOps F] in
instance coreParts_storable (d : Dev nD) (c : Fin 2) (x f : S2097152.Idx → F .f32) : BI.Storable (upEmb : UEmb _ 𝕄) (coreParts d c x f) := by
  unfold coreParts; infer_instance

/-! ## The call's payloads -/

/-- The call hands a SparseCore its tiles' parts, the result's as launched, and takes them back with the result's at the running sums;
    a SparseCore does the same with each tile. -/
def P : (K (F := F)).Pay (nD := nD) (Val := Elt F) (Name := ℕ) (U := UU) where
  st := fun q d c => match q with | 0 => coreParts d c (flat m d) (m (oLoc d))
  dn := fun q d c => match q with | 0 => coreParts d c (flat m d) (scan (flat m d))
  go := fun q d c s => match q with | 0 => parts d (tile c s) (flat m d) (m (oLoc d))
  td := fun q d c s => match q with | 0 => parts d (tile c s) (flat m d) (scan (flat m d))
  x := fun _ _ => iprop(emp)

instance P_storable : (P (F := F) m).IsStorable where
  st q d c := match q with | 0 => coreParts_storable d c _ _
  dn q d c := match q with | 0 => coreParts_storable d c _ _
  go q d c s := match q with | 0 => (inferInstance : BI.Storable (upEmb : UEmb _ 𝕄) (parts d (tile c s) (flat m d) (m (oLoc d))))
  td q d c s := match q with | 0 => (inferInstance : BI.Storable (upEmb : UEmb _ 𝕄) (parts d (tile c s) (flat m d) (scan (flat m d))))

/-! ## The launch theorem's obligations -/

theorem defs₀_vector (c : Fin τ.nSC) (s : Fin τ.nSub) :
    defs₀ (F := F) (.scVector c s) 0 ()
      = SparseCore.onTile hcore0 hsub0 (fun c s => cc0__body (coordsV c s)
          xV (Memref.isWhole_whole _) oV (Memref.isWhole_whole _) sV (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task d (coordsV ⟨_, hc.1⟩ ⟨_, hc.2⟩) (flat m d) (m (oLoc d)) O W hO).trans (wp_mono frame _ _ fun _ => obl_post)

theorem vecSplit : (K (F := F)).VecSplit' (P m) 0 := by
  intro d c
  show coreParts d c (flat m d) (m (oLoc d)) ⊢ |={Set.univ}=> iprop(coreParts d c (flat m d) (m (oLoc d))
      ∗ (coreParts d c (flat m d) (scan (flat m d)) -∗ coreParts d c (flat m d) (scan (flat m d))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S16x4096x32_S2097152
abbrev opOut : HloOp τ sig (Elt F) := StableHlo.reshape main_v1 main_v2 (rfl : (.f32 : EltTy) = .f32) shapeCasts_S2097152_S16x4096x32

/-- The TensorCore's arrays: the input, the flat input, the flat result, the result. -/
abbrev S4 : Finset (DevRef τ sig) := {a', x', o', r'}

omit [FloatOps F] in
theorem held_S4 (d : Dev nD) (W : Valuation τ sig (Elt F)) :
    (held (T d) S4 W : sProp 𝕄) = iprop((argLoc d ↦{fullShare} W a') ∗ (xLoc d ↦{fullShare} W x') ∗ (oLoc d ↦{fullShare} W o') ∗ resLoc d ↦{fullShare} W r') := by
  unfold held S4
  rw [SparseCore.bigSep_insert' (by decide), SparseCore.bigSep_insert' (by decide), SparseCore.bigSep_insert' (by decide), bigSep_singleton]

/-- The launch contents; and those after the call. -/
def V0 (d : Dev nD) : Valuation τ sig (Elt F) := fun b => m (d, b)
def V1 (d : Dev nD) : Valuation τ sig (Elt F) := Function.update (Function.update (V0 m d) x' (flat m d)) o' (scan (flat m d))

omit [FloatOps F] in
theorem unscoped_held (d : Dev nD) : (unscopedBufs d (fun b => m ((SparseCore.T d).loc b)) : sProp 𝕄) = held (T d) S4 (V0 m d) := by
  rw [held_S4]
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

/-- After the first operation: the flat input laid out, the rest as launched. -/
theorem held_in (d : Dev nD) :
    (held (T d) S4 ((opIn (F := F)).result (V0 m d)) : sProp 𝕄)
      = iprop((argLoc d ↦{fullShare} m (argLoc d)) ∗ (xLoc d ↦{fullShare} flat m d) ∗ (oLoc d ↦{fullShare} m (oLoc d)) ∗ resLoc d ↦{fullShare} m (resLoc d)) := by
  rw [held_S4, StableHlo.reshape_result, StableHlo.reshape_result_ne _ _ _ _ _ _ _ (show main_arg0 ≠ main_v0 by decide),
    StableHlo.reshape_result_ne _ _ _ _ _ _ _ (show main_v1 ≠ main_v0 by decide), StableHlo.reshape_result_ne _ _ _ _ _ _ _ (show main_v2 ≠ main_v0 by decide)]
  rfl

theorem V1_a (d : Dev nD) : V1 m d a' = m (argLoc d) :=
  (Function.update_of_ne (show a' ≠ o' by decide) _ _).trans (Function.update_of_ne (show a' ≠ x' by decide) _ _)
theorem V1_x (d : Dev nD) : V1 m d x' = flat m d :=
  (Function.update_of_ne (show x' ≠ o' by decide) _ _).trans (Function.update_self _ _ _)
theorem V1_o (d : Dev nD) : V1 m d o' = scan (flat m d) := Function.update_self _ _ _
theorem V1_r (d : Dev nD) : V1 m d r' = m (resLoc d) :=
  (Function.update_of_ne (show r' ≠ o' by decide) _ _).trans (Function.update_of_ne (show r' ≠ x' by decide) _ _)

/-- After the last: the input as launched and the result at the running sums. -/
theorem held_out (d : Dev nD) :
    (held (T d) S4 ((opOut (F := F)).result (V1 m d)) : sProp 𝕄)
      = iprop((argLoc d ↦{fullShare} m (argLoc d)) ∗ (xLoc d ↦{fullShare} flat m d) ∗ (oLoc d ↦{fullShare} scan (flat m d)) ∗ resLoc d ↦{fullShare} out m d) := by
  rw [held_S4, StableHlo.reshape_result, StableHlo.reshape_result_ne _ _ _ _ _ _ _ (show main_arg0 ≠ main_v2 by decide),
    StableHlo.reshape_result_ne _ _ _ _ _ _ _ (show main_v0 ≠ main_v2 by decide), StableHlo.reshape_result_ne _ _ _ _ _ _ _ (show main_v1 ≠ main_v2 by decide)]
  rw [show V1 m d (Proc.devRef .tc main_arg0) = _ from V1_a m d, show V1 m d (Proc.devRef .tc main_v0) = _ from V1_x m d, show V1 m d (Proc.devRef .tc main_v1) = _ from V1_o m d]
  rfl

theorem st0_eq (d : Dev nD) :
    (bigSep Finset.univ fun c : Fin ((K (F := F)).nCore 0) => (P m).st 0 d c) = iprop((xLoc d ↦{fullShare} flat m d) ∗ (oLoc d ↦{fullShare} m (oLoc d))) :=
  cores d (flat m d) (m (oLoc d))
theorem dn0_eq (d : Dev nD) :
    (bigSep Finset.univ fun c : Fin ((K (F := F)).nCore 0) => (P m).dn 0 d c) = iprop((xLoc d ↦{fullShare} flat m d) ∗ (oLoc d ↦{fullShare} scan (flat m d))) :=
  cores d (flat m d) (scan (flat m d))

/-- What @main leaves: the input as launched, the result at the running sums. -/
abbrev FIN (d : Dev nD) : sProp 𝕄 := iprop((argLoc d ↦{fullShare} m (argLoc d)) ∗ resLoc d ↦{fullShare} out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the input laid out flat
  iapply (wp_hlo_within 𝒱 (SparseCore.T d) none Set.univ (op := opIn) (S := S4) (show ({a', x'} : Finset (DevRef τ sig)) ⊆ S4 by decide) (V := V0 m d)) $$ [Hb Hheld]
  · isplitl [Hb] <;> iassumption
  iintro ⟨Hb, Hheld⟩
  ihave Hh := (Entails.of_eq (held_in (F := F) m d)) $$ Hheld
  icases Hh with ⟨Ha, Hx, Ho, Hr⟩
  rw [wp_ret]; imodintro
  -- the call
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st0_eq]; isplitl [Hx] <;> iassumption
  iintro ⟨Hst, Hdn⟩
  ihave Hdn' := (Entails.of_eq (dn0_eq m d)) $$ Hdn
  icases Hdn' with ⟨Hx, Ho⟩
  -- the result in the input's shape
  iapply (wp_hlo_within 𝒱 (SparseCore.T d) none Set.univ (op := opOut) (S := S4) (show ({o', r'} : Finset (DevRef τ sig)) ⊆ S4 by decide) (V := V1 m d)) $$ [Hb Ha Hx Ho Hr]
  · isplitl [Hb]; · iexact Hb
    rw [held_S4, V1_a, V1_x, V1_o, V1_r]
    isplitl [Ha]; · iexact Ha
    isplitl [Hx]; · iexact Hx
    isplitl [Ho] <;> iassumption
  iintro ⟨Hb, Hheld⟩
  ihave Hh := (Entails.of_eq (held_out (F := F) m d)) $$ Hheld
  icases Hh with ⟨Ha, -, -, Hr⟩
  rw [wp_ret]; imodintro; imodintro
  isplitl [Hst]; · iexact Hst
  isplitl [Ha Hr]
  · isplitl [Ha] <;> iassumption
  isplitl [Hb] <;> iassumption

def fq (d : Dev nD) (s' : Phys nD τ sig (Elt F)) : Prop := s'.mem.mem (argLoc d) = m (argLoc d) ∧ s'.mem.mem (resLoc d) = out m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := out m d)) $$ [HSI Hr]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop :=
  fun r => (∀ c : Dev nD, r.2.mem (argLoc c) = m (argLoc c) ∧ r.2.mem (resLoc c) = out m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Value.lean ====
/-
  The kernel's result and the reference's, over the extended reals. The reference cuts the 4096 steps into 64 runs of 64 and sums each
  run's steps up to each one: a window of 64 steps that ends at the step, over the run padded with 63 zeros before it. Such a window's
  sum is, in order, zeros and then the steps from the run's first to the step (`window_at`), which is the kernel's sum of the lane so
  far. Both read the same elements, since each reshape keeps the elements' flat positions (`result_eq`).
-/
module

public import proofs.«01_k».proof.Defs
public import proofs.«01_k».proof.Proof.Scan
public import proofs.«01_k».proof.Proof.Gen.ReferenceIdeal
public import Idealize.ShloMosaic.PureOps.Ideal

@[expose] public section

noncomputable section

namespace Cert.Proof.Value

open Cert.ReferenceIdeal Cert.Proof.Scan
open Idealize.ShloMosaic Idealize.ShloMosaic.ValueIdx

theorem zero_ideal : (zero : Ideal .f32) = (0 : EReal) := by
  show Ideal.ofBits .f32 0x00000000#32 = 0
  simp [Ideal.ofBits, Ideal.ieee]

/-- The term the window at step `t` of a run adds at its position `w`, where the lane's steps start at `b`: zero before the run, then the
    lane's step. -/
def term (X : ℕ → Ideal .f32) (b t w : ℕ) : EReal := if 63 ≤ t + w then X (b + 32 * (t + w - 63)) else 0

/-- After `w` positions the window at step `t` has summed the lane's first `w - (63 - t)` steps. -/
theorem window_prefix (X : ℕ → Ideal .f32) (b t : ℕ) (ht : t < 64) (w : ℕ) :
    (List.range w).foldl (fun (r : EReal) n => r + term X b t n) 0 = laneSum X b (w - (63 - t)) := by
  induction w with
  | zero => rw [Nat.zero_sub]; exact zero_ideal.symm
  | succ w ih =>
    rw [List.range_succ, List.foldl_append, ih, List.foldl_cons, List.foldl_nil]
    by_cases h : 63 ≤ t + w
    · rw [term, if_pos h, show w + 1 - (63 - t) = w - (63 - t) + 1 by omega, show t + w - 63 = w - (63 - t) by omega]
      rfl
    · rw [term, if_neg h, show w + 1 - (63 - t) = w - (63 - t) by omega]
      exact add_zero _

/-- A fold over the window's positions in order, each adding its term, is the fold over the numbers below the window's size. -/
theorem foldl_terms {N : ℕ} (g : EReal → Fin N → EReal) (a : EReal) (v : ℕ → EReal) (h : ∀ r n, g r n = r + v n.val) :
    (List.finRange N).foldl g a = (List.range N).foldl (fun r n => r + v n) a := by
  rw [← List.map_coe_finRange_eq_range, List.foldl_map, show g = fun r n => r + v n.val from funext fun r => funext fun n => h r n]

/-- The window: one batch, one run, 64 steps, one lane. -/
abbrev Win : Shape := ⟨4, ![1, 1, 64, 1]⟩

theorem win_numel : Win.numel = 64 := by decide

/-- Position `n` of the window is its step `n`. -/
theorem win_symm (n : Fin Win.numel) :
    Win.rowMajor.symm n = ix4 (n0 := 1) (n1 := 1) (n2 := 64) (n3 := 1) 0 0 (n.cast win_numel) 0 :=
  (Win.rowMajor.symm_apply_eq).2 (Fin.ext (by
    rw [Shape.rowMajor_val_four]
    show n.val = ((0 * 1 + 0) * 64 + n.val) * 1 + 0
    omega))

/-- The element the window at `j` reads at its position `n`, of an array whose elements are `X` in flat order. -/
theorem element_at (X : ℕ → Ideal .f32) (y : S16x64x64x32.Idx → Ideal .f32)
    (hy : ∀ k : S16x64x64x32.Idx, y k = X ((((k 0).val * 64 + (k 1).val) * 64 + (k 2).val) * 32 + (k 3).val)) (j k : S16x64x64x32.Idx) (n : ℕ)
    (h0 : (k 0).val = (j 0).val) (h1 : (k 1).val = (j 1).val) (h2 : (k 2).val = (j 2).val + n - 63) (h3 : (k 3).val = (j 3).val)
    (h : 63 ≤ (j 2).val + n) :
    (y k : EReal) = term X (2048 * ((j 0).val * 64 + (j 1).val) + (j 3).val) (j 2).val n := by
  rw [hy, term, if_pos h, h0, h1, h2, h3]
  refine congrArg X ?_
  omega

/-- The reference's window sum at batch `j 0`, run `j 1`, step `j 2`, lane `j 3`, of an array whose elements are `X` in flat order: the
    lane's sum up to the step. -/
theorem window_at (X : ℕ → Ideal .f32) (y : S16x64x64x32.Idx → Ideal .f32)
    (hy : ∀ k : S16x64x64x32.Idx, y k = X ((((k 0).val * 64 + (k 1).val) * 64 + (k 2).val) * 32 + (k 3).val))
    (init : S_.Idx → Ideal .f32) (hinit : ∀ i, init i = (0 : EReal))
    (h : S16x64x64x32.ReduceWindows ![1, 1, 64, 1] ![1, 1, 1, 1] ![0, 0, 63, 0] ![0, 0, 0, 0] S16x64x64x32) (hu : 0 < S_.numel)
    (j : S16x64x64x32.Idx) :
    Host.reduceWindowAdd (F := Ideal) (φ := .f32) ![1, 1, 64, 1] ![1, 1, 1, 1] ![0, 0, 63, 0] ![0, 0, 0, 0] y init h hu j
      = laneSum X (2048 * ((j 0).val * 64 + (j 1).val) + (j 3).val) ((j 2).val + 1) := by
  have b0 : (j 0).val < 16 := (j 0).isLt
  have b1 : (j 1).val < 64 := (j 1).isLt
  have b2 : (j 2).val < 64 := (j 2).isLt
  have b3 : (j 3).val < 32 := (j 3).isLt
  rw [Host.reduceWindowAdd, Ideal.hostReduceWindowAdd_def, Ideal.hostReduceWindowAdd, hinit]
  unfold Host.reduceWindow
  refine (foldl_terms _ _ (term X (2048 * ((j 0).val * 64 + (j 1).val) + (j 3).val) (j 2).val) (fun r n => ?_)).trans ?_
  · have hn : n.val < 64 := lt_of_lt_of_eq n.isLt win_numel
    have w0 : (Win.rowMajor.symm n 0).val = 0 := by rw [win_symm]; rfl
    have w1 : (Win.rowMajor.symm n 1).val = 0 := by rw [win_symm]; rfl
    have w2 : (Win.rowMajor.symm n 2).val = n.val := by rw [win_symm]; rfl
    have w3 : (Win.rowMajor.symm n 3).val = 0 := by rw [win_symm]; rfl
    dsimp only
    split
    · next hin =>
      have h2 := (hin 2).1
      change 63 ≤ (j 2).val * 1 + (Win.rowMajor.symm n 2).val at h2
      rw [w2] at h2
      refine congrArg (fun e : EReal => r + e) (element_at X y hy j _ n.val ?_ ?_ ?_ ?_ (by omega))
      · show (j 0).val * 1 + (Win.rowMajor.symm n 0).val - 0 = (j 0).val
        omega
      · show (j 1).val * 1 + (Win.rowMajor.symm n 1).val - 0 = (j 1).val
        omega
      · show (j 2).val * 1 + (Win.rowMajor.symm n 2).val - 63 = (j 2).val + n.val - 63
        omega
      · show (j 3).val * 1 + (Win.rowMajor.symm n 3).val - 0 = (j 3).val
        omega
    · next hin =>
      rw [term, if_neg]
      intro hle
      refine hin fun a => ?_
      match a with
      | ⟨0, _⟩ =>
        show 0 ≤ (j 0).val * 1 + (Win.rowMajor.symm n 0).val ∧ (j 0).val * 1 + (Win.rowMajor.symm n 0).val - 0 < 16
        omega
      | ⟨1, _⟩ =>
        show 0 ≤ (j 1).val * 1 + (Win.rowMajor.symm n 1).val ∧ (j 1).val * 1 + (Win.rowMajor.symm n 1).val - 0 < 64
        omega
      | ⟨2, _⟩ =>
        show 63 ≤ (j 2).val * 1 + (Win.rowMajor.symm n 2).val ∧ (j 2).val * 1 + (Win.rowMajor.symm n 2).val - 63 < 64
        omega
      | ⟨3, _⟩ =>
        show 0 ≤ (j 3).val * 1 + (Win.rowMajor.symm n 3).val ∧ (j 3).val * 1 + (Win.rowMajor.symm n 3).val - 0 < 32
        omega
  · show (List.range Win.numel).foldl (fun (r : EReal) n => r + term X _ _ n) 0 = _
    rw [win_numel, window_prefix _ _ _ b2, show 64 - (63 - (j 2).val) = (j 2).val + 1 by omega]

/-- The flat array. -/
abbrev Flat : Shape := ⟨1, ![2097152]⟩

/-- A reshape's element at `k` is the element of the flat array at `k`'s flat position. -/
theorem cast_flat {s t : Shape} (x : s.Idx → Ideal .f32) (h1 : s.ShapeCasts Flat) (h3 : s.ShapeCasts t) (h : t.ShapeCasts Flat) (k : t.Idx) :
    shapeCast t x h3 k = at0 (shapeCast Flat x h1) (t.rowMajor k).val := by
  have e : (Flat.rowMajor (Shape.reshapeEquiv h.symm k)).val = (t.rowMajor k).val := Shape.rowMajor_reshapeEquiv _ _
  rw [Shape.rowMajor_val_one] at e
  rw [← e, at0_val]
  show x (Shape.reshapeEquiv _ k) = x (Shape.reshapeEquiv _ (Shape.reshapeEquiv _ k))
  rw [Shape.reshapeEquiv_reshapeEquiv]

/-- The kernel's result is the reference's, when both start from the argument `x`. -/
theorem result_eq (x : S16x4096x32.Idx → Ideal .f32) (h1 : S16x4096x32.ShapeCasts Flat) (h2 : Flat.ShapeCasts S16x4096x32)
    (h3 : S16x4096x32.ShapeCasts S16x64x64x32) (h5 : S16x64x64x32.ShapeCasts S16x4096x32) (hb : S_.BroadcastsInDim S_ ![])
    (h4 : S16x64x64x32.ReduceWindows ![1, 1, 64, 1] ![1, 1, 1, 1] ![0, 0, 63, 0] ![0, 0, 0, 0] S16x64x64x32) (hu : 0 < S_.numel) :
    shapeCast S16x4096x32 (Host.reduceWindowAdd (F := Ideal) (φ := .f32) ![1, 1, 64, 1] ![1, 1, 1, 1] ![0, 0, 63, 0] ![0, 0, 0, 0]
          (shapeCast S16x64x64x32 x h3) (broadcastInDim S_ ![] hb (constant S_ .f32 0x00000000#32)) h4 hu) h5
      = shapeCast S16x4096x32 (scan (shapeCast Flat x h1)) h2 := by
  funext i
  have hn : (Flat.rowMajor (Shape.reshapeEquiv h2 i)).val = (S16x4096x32.rowMajor i).val := Shape.rowMajor_reshapeEquiv _ _
  rw [Shape.rowMajor_val_one] at hn
  have hj : (S16x64x64x32.rowMajor (Shape.reshapeEquiv h5 i)).val = (S16x4096x32.rowMajor i).val := Shape.rowMajor_reshapeEquiv _ _
  rw [Shape.rowMajor_val_four, ← hn] at hj
  show Host.reduceWindowAdd (F := Ideal) (φ := .f32) ![1, 1, 64, 1] ![1, 1, 1, 1] ![0, 0, 63, 0] ![0, 0, 0, 0]
          (shapeCast S16x64x64x32 x h3) (broadcastInDim S_ ![] hb (constant S_ .f32 0x00000000#32)) h4 hu (Shape.reshapeEquiv h5 i)
      = scanAt (at0 (shapeCast Flat x h1)) (Shape.reshapeEquiv h2 i 0).val
  generalize Shape.reshapeEquiv h5 i = j at hj ⊢
  generalize (Shape.reshapeEquiv h2 i 0).val = n at hj ⊢
  change (((j 0).val * 64 + (j 1).val) * 64 + (j 2).val) * 32 + (j 3).val = n at hj
  have b2 : (j 2).val < 64 := (j 2).isLt
  have b3 : (j 3).val < 32 := (j 3).isLt
  refine (window_at (at0 (shapeCast Flat x h1)) _ (fun k => ?_) _ (fun _ => zero_ideal) h4 hu j).trans ?_
  · exact (cast_flat x h1 h3 (h5.trans h1) k).trans (congrArg _ (Shape.rowMajor_val_four k))
  · rw [scanAt, show n / 2048 = (j 0).val * 64 + (j 1).val by omega, show n % 32 = (j 3).val by omega,
      show n % 2048 / 32 = (j 2).val by omega]

end Cert.Proof.Value

end
-- ==== Proof.lean ====
/-
  The claims, each from a program's run. The kernel's run (KernelRun and KernelIdealRun: one proof, for any float values) leaves its
  argument as it was, every counter at zero and the running sums in the result; the reference's run leaves its window sums, which are the
  same over the extended reals (Value).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.Kernel.defs _ _).mono (fun _ h => ⟨fun c => (h.1 c).1, h.2⟩) (Cert.Kernel.Tile.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Tile.run_main (F := Ideal) m ρ)

/-- The reference has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From one argument both end with the kernel's running sums. -/
theorem same_result : Cert.algebraic_KernelIdeal_ReferenceIdeal := fun m ρ m' ρ' _ heq =>
  ⟨fun c => Cert.KernelIdeal.Tile.out m c,
    (θ_run Cert.KernelIdeal.defs _ _).mono (fun _ h c => ⟨(h.1 c).2, (h.1 c).1⟩) (Cert.KernelIdeal.Tile.run_main (F := Ideal) m ρ),
    (θ_run Cert.ReferenceIdeal.defs _ _).mono (fun _ h c => ⟨(h c).1.trans (by
        rw [heq c]
        exact Value.result_eq (m (Cert.KernelIdeal.Tile.argLoc c)) _ _ _ _ _ _ _), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_result⟩

end Cert.Proof

end
